-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
-- ==== Pre_in_table.lean ====
abbrev S256x384x128 : Shape := ⟨3, ![256, 384, 128]⟩
abbrev S1x384 : Shape := ⟨2, ![1, 384]⟩
abbrev S512x128 : Shape := ⟨2, ![512, 128]⟩
abbrev S128 : Shape := ⟨1, ![128]⟩
abbrev S_ : Shape := ⟨0, ![]⟩

class Facts : Prop where
  bcast_S_S1x384 : S_.BroadcastsInDim S1x384 (![] : Fin 0 → Fin S1x384.rank)

variable [Facts]

def fn {F : FTy → Type} [FloatOps F] (main_arg0 : FVec F S256x384x128 .f32) (main_arg1 : IVec S1x384 32) (main_arg2 : FVec F S512x128 .f32) (main_arg3 : FVec F S128 .f32) (main_arg4 : FVec F S128 .f32) : IVec S1x384 1 :=
  let main_c : IVec S_ 32 := constantI S_ 32 0#32
  let main_v0 : IVec S1x384 32 := broadcastInDim S1x384 ![] bcast_S_S1x384 main_c
  let main_v1 : IVec S1x384 1 := cmpi .sge main_arg1 main_v0
  let main_c_0 : IVec S_ 32 := constantI S_ 32 512#32
  let main_v2 : IVec S1x384 32 := broadcastInDim S1x384 ![] bcast_S_S1x384 main_c_0
  let main_v3 : IVec S1x384 1 := cmpi .slt main_arg1 main_v2
  let main_v4 : IVec S1x384 1 := andi main_v1 main_v3
  main_v4
-- ==== Kernel.lean ====
abbrev S256x384x128 : Shape := ⟨3, ![256, 384, 128]⟩
abbrev S1x384 : Shape := ⟨2, ![1, 384]⟩
abbrev S512x128 : Shape := ⟨2, ![512, 128]⟩
abbrev S128 : Shape := ⟨1, ![128]⟩
abbrev S1x128 : Shape := ⟨2, ![1, 128]⟩
abbrev S32x384x128 : Shape := ⟨3, ![32, 384, 128]⟩
abbrev S384x128 : Shape := ⟨2, ![384, 128]⟩
abbrev S512x384 : Shape := ⟨2, ![512, 384]⟩
abbrev S1x384x128 : Shape := ⟨3, ![1, 384, 128]⟩
abbrev S32x384 : Shape := ⟨2, ![32, 384]⟩
abbrev S32x384x1 : Shape := ⟨3, ![32, 384, 1]⟩
abbrev S1x1x128 : Shape := ⟨3, ![1, 1, 128]⟩

abbrev nBuf : Space → Nat
  | .hbm => 8
  | .vmem => 9
  | .smem => 0
  | _ => 0

abbrev bufTy : (tb : Table) → Fin (tcTables nBuf tb) → BufTy
  | .hbm, ⟨0, _⟩ => ⟨S256x384x128, .f32⟩
  | .hbm, ⟨1, _⟩ => ⟨S1x384, .i32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S256x384x128, .f32⟩
  | .local _ .vmem, ⟨0, _⟩ => ⟨S1x384, .i32⟩
  | .local _ .vmem, ⟨1, _⟩ => ⟨S512x128, .f32⟩
  | .local _ .vmem, ⟨2, _⟩ => ⟨S32x384x128, .f32⟩
  | .local _ .vmem, ⟨3, _⟩ => ⟨S32x384x128, .f32⟩
  | .local _ .vmem, ⟨4, _⟩ => ⟨S1x128, .f32⟩
  | .local _ .vmem, ⟨5, _⟩ => ⟨S1x128, .f32⟩
  | .local _ .vmem, ⟨6, _⟩ => ⟨S32x384x128, .f32⟩
  | .local _ .vmem, ⟨7, _⟩ => ⟨S32x384x128, .f32⟩
  | .local _ .vmem, ⟨8, _⟩ => ⟨S384x128, .f32⟩
  | _, _ => ⟨S256x384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x384x128 : Shape := ⟨3, ![256, 384, 128]⟩
abbrev S1x384 : Shape := ⟨2, ![1, 384]⟩
abbrev S512x128 : Shape := ⟨2, ![512, 128]⟩
abbrev S128 : Shape := ⟨1, ![128]⟩
abbrev S_ : Shape := ⟨0, ![]⟩
abbrev S1x384x1 : Shape := ⟨3, ![1, 384, 1]⟩
abbrev S1 : Shape := ⟨1, ![1]⟩
abbrev S1x1x1 : Shape := ⟨3, ![1, 1, 1]⟩
abbrev S1x384x128 : Shape := ⟨3, ![1, 384, 128]⟩
abbrev S256x384 : Shape := ⟨2, ![256, 384]⟩
abbrev S256x384x1 : Shape := ⟨3, ![256, 384, 1]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S256x384x128, .f32⟩
  | .hbm, ⟨1, _⟩ => ⟨S1x384, .i32⟩
  | .hbm, ⟨2, _⟩ => ⟨S512x128, .f32⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S1x384, .i32⟩
  | .hbm, ⟨7, _⟩ => ⟨S1x384, .i1⟩
  | .hbm, ⟨8, _⟩ => ⟨S_, .i32⟩
  | .hbm, ⟨9, _⟩ => ⟨S1x384, .i32⟩
  | .hbm, ⟨10, _⟩ => ⟨S1x384, .i32⟩
  | .hbm, ⟨11, _⟩ => ⟨S1x384, .i32⟩
  | .hbm, ⟨12, _⟩ => ⟨S1x384x1, .i32⟩
  | .hbm, ⟨13, _⟩ => ⟨S1, .i32⟩
  | .hbm, ⟨14, _⟩ => ⟨S_, .i32⟩
  | .hbm, ⟨15, _⟩ => ⟨S1x384x1, .i32⟩
  | .hbm, ⟨16, _⟩ => ⟨S1x384x1, .i1⟩
  | .hbm, ⟨17, _⟩ => ⟨S1x1x1, .i32⟩
  | .hbm, ⟨18, _⟩ => ⟨S1x384x1, .i32⟩
  | .hbm, ⟨19, _⟩ => ⟨S1x384x1, .i1⟩
  | .hbm, ⟨20, _⟩ => ⟨S1x384x1, .i1⟩
  | .hbm, ⟨21, _⟩ => ⟨S_, .i1⟩
  | .hbm, ⟨22, _⟩ => ⟨S1x384, .i1⟩
  | .hbm, ⟨23, _⟩ => ⟨S1x384x128, .f32⟩
  | .hbm, ⟨24, _⟩ => ⟨S1x384x128, .i1⟩
  | .hbm, ⟨25, _⟩ => ⟨S_, .f32⟩
  | .hbm, ⟨26, _⟩ => ⟨S1x384x128, .f32⟩
  | .hbm, ⟨27, _⟩ => ⟨S1x384x128, .f32⟩
  | .hbm, ⟨28, _⟩ => ⟨S256x384x128, .f32⟩
  | .hbm, ⟨29, _⟩ => ⟨S256x384x128, .f32⟩
  | .hbm, ⟨30, _⟩ => ⟨S_, .f32⟩
  | .hbm, ⟨31, _⟩ => ⟨S256x384, .f32⟩
  | .hbm, ⟨32, _⟩ => ⟨S256x384x1, .f32⟩
  | .hbm, ⟨33, _⟩ => ⟨S_, .f32⟩
  | .hbm, ⟨34, _⟩ => ⟨S256x384x1, .f32⟩
  | .hbm, ⟨35, _⟩ => ⟨S256x384x1, .f32⟩
  | .hbm, ⟨36, _⟩ => ⟨S256x384x128, .f32⟩
  | .hbm, ⟨37, _⟩ => ⟨S256x384x128, .f32⟩
  | .hbm, ⟨38, _⟩ => ⟨S256x384x128, .f32⟩
  | .hbm, ⟨39, _⟩ => ⟨S_, .f32⟩
  | .hbm, ⟨40, _⟩ => ⟨S256x384, .f32⟩
  | .hbm, ⟨41, _⟩ => ⟨S256x384x1, .f32⟩
  | .hbm, ⟨42, _⟩ => ⟨S_, .f32⟩
  | .hbm, ⟨43, _⟩ => ⟨S256x384x1, .f32⟩
  | .hbm, ⟨44, _⟩ => ⟨S256x384x1, .f32⟩
  | .hbm, ⟨45, _⟩ => ⟨S256x384x128, .f32⟩
  | .hbm, ⟨46, _⟩ => ⟨S256x384x128, .f32⟩
  | .hbm, ⟨47, _⟩ => ⟨S_, .f32⟩
  | .hbm, ⟨48, _⟩ => ⟨S256x384x1, .f32⟩
  | .hbm, ⟨49, _⟩ => ⟨S256x384x1, .f32⟩
  | .hbm, ⟨50, _⟩ => ⟨S256x384x1, .f32⟩
  | .hbm, ⟨51, _⟩ => ⟨S256x384x128, .f32⟩
  | .hbm, ⟨52, _⟩ => ⟨S256x384x128, .f32⟩
  | .hbm, ⟨53, _⟩ => ⟨S1x1x128, .f32⟩
  | .hbm, ⟨54, _⟩ => ⟨S256x384x128, .f32⟩
  | .hbm, ⟨55, _⟩ => ⟨S256x384x128, .f32⟩
  | .hbm, ⟨56, _⟩ => ⟨S1x1x128, .f32⟩
  | .hbm, ⟨57, _⟩ => ⟨S256x384x128, .f32⟩
  | .hbm, ⟨58, _⟩ => ⟨S256x384x128, .f32⟩
  | _, _ => ⟨S256x384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_cst_0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩

abbrev nD : Nat := 1
abbrev τ : Topo := Topo.v7x

variable {F : FTy → Type} [FloatOps F]
-- ==== Proof.RowNorm.lean ====
/- The mathematics of one row: layer normalization of 128 extended reals, in the two spellings that the kernel and the
   reference use, and the proof that they are the same function on every row. Nothing here mentions a program. -/
module

public import Idealize.ShloMosaic.Lib.Pointwise

@[expose] public section

noncomputable section

namespace Cert.RowNorm

open Idealize.ShloMosaic

/-- The row length 128, as the float constant that both programs divide by. -/
abbrev len : EReal := Ideal.ofBits .f32 0x43000000#32

/-- The small constant (about `1e-12`) that both programs add to the variance. -/
abbrev eps : EReal := Ideal.ofBits .f32 0x2B8CBCCC#32

/-- The mean of a row. -/
def mean (x : Fin 128 → EReal) : EReal := Ideal.div (∑ k, x k) len

/-- The variance of a row: the mean of the squared distances to the mean. -/
def var (x : Fin 128 → EReal) : EReal := Ideal.div (∑ k, (x k - mean x) * (x k - mean x)) len

/-- One normalized entry, as the reference writes it: divided by the square root, then scaled by `g` and shifted by `b`. -/
def norm (x : Fin 128 → EReal) (g b : EReal) (l : Fin 128) : EReal :=
  Ideal.div (x l - mean x) (Ideal.sqrt (var x + eps)) * g + b

/-- One normalized entry, as the kernel writes it: multiplied by the reciprocal square root. -/
def normR (x : Fin 128 → EReal) (g b : EReal) (l : Fin 128) : EReal :=
  (x l - mean x) * Ideal.rsqrt (var x + eps) * g + b

/-- The row length is the real number 128. -/
theorem len_eq : len = ((128 : ℝ) : EReal) := by
  simp [len, Ideal.ofBits, Ideal.ieee, -EReal.coe_mul]
  norm_num

/-- The small constant is positive. -/
theorem eps_pos : 0 < eps := by
  simp only [eps, Ideal.ofBits, Ideal.ieee]
  simp [-EReal.coe_mul]

/-- A square of an extended real is not negative (`⊥ * ⊥ = ⊤`). -/
theorem mul_self_nonneg (x : EReal) : 0 ≤ x * x := by
  rcases le_total 0 x with h | h
  · exact mul_nonneg h h
  · have := mul_nonneg (EReal.neg_nonneg.2 h) (EReal.neg_nonneg.2 h)
    rwa [neg_mul_neg] at this

/-- The variance of a row is not negative, whatever the row holds. -/
theorem var_nonneg (x : Fin 128 → EReal) : 0 ≤ var x := by
  have h0 : 0 ≤ ∑ k, (x k - mean x) * (x k - mean x) := Finset.sum_nonneg fun k _ => mul_self_nonneg _
  have h1 : (0 : EReal) ≤ len⁻¹ := by
    rw [len_eq]
    exact EReal.inv_nonneg_of_nonneg (by exact_mod_cast (by norm_num : (0 : ℝ) ≤ 128))
  have h2 : len ≠ 0 := by
    rw [len_eq]
    exact_mod_cast (by norm_num : (128 : ℝ) ≠ 0)
  unfold var Ideal.div
  rw [if_neg h2]
  exact mul_nonneg h0 h1

/-- Hence what stands under the root is positive. -/
theorem var_add_eps_pos (x : Fin 128 → EReal) : 0 < var x + eps :=
  lt_of_lt_of_le eps_pos (le_add_of_nonneg_left (var_nonneg x))

/-- At a positive `y`, `⊤` included, multiplying by the reciprocal square root is dividing by the square root. -/
theorem mul_rsqrt (x y : EReal) (hy : 0 < y) : x * Ideal.rsqrt y = Ideal.div x (Ideal.sqrt y) := by
  induction y with
  | bot => exact absurd hy (by simp)
  | top => simp [Ideal.div]
  | coe r =>
    have hr : 0 < r := by exact_mod_cast hy
    have hs : Real.sqrt r ≠ 0 := (Real.sqrt_pos.2 hr).ne'
    have hs' : ((Real.sqrt r : ℝ) : EReal) ≠ 0 := by exact_mod_cast hs
    rw [Ideal.rsqrt_coe, Ideal.sqrt_coe, if_neg hr.not_gt, if_neg hr.ne', if_neg hr.not_gt]
    unfold Ideal.div
    rw [if_neg hs', EReal.coe_inv]

/-- The two spellings of a normalized entry agree on every row. -/
theorem normR_eq_norm (x : Fin 128 → EReal) (g b : EReal) (l : Fin 128) : normR x g b l = norm x g b l := by
  unfold normR norm
  rw [mul_rsqrt _ _ (var_add_eps_pos x)]

end Cert.RowNorm

end
-- ==== Proof.Lookup.lean ====
/- The table lookup: an index word in range names a row of the table; the kernel's one-hot product with the table picks
   that row, whatever the table holds. Nothing here mentions a program. -/
module

public import Idealize.ShloMosaic.Lib.Pointwise
public import Idealize.ShloMosaic.Lib.Affine

@[expose] public section

noncomputable section

namespace Cert.Lookup

open Idealize.ShloMosaic

/-- The word `w`, read as a signed integer, is a row number of a table of 512 rows. -/
def InTable (w : BitVec 32) : Prop := 0 ≤ w.toInt ∧ w.toInt < 512

/-- The row of the table that a word names (row 0 stands in for a word out of range; no claim uses it). -/
def row (w : BitVec 32) : Fin 512 := ⟨w.toNat % 512, Nat.mod_lt _ (by decide)⟩

/-- A word in range is the same number read signed or unsigned. -/
theorem InTable.toInt_eq {w : BitVec 32} (h : InTable w) : w.toInt = w.toNat ∧ w.toNat < 512 := by
  obtain ⟨h0, h1⟩ := h
  rw [BitVec.toInt_eq_toNat_cond] at h0 h1 ⊢
  have := w.isLt
  split at h0 <;> simp_all <;> omega

/-- A word in range is its row's number. -/
theorem InTable.row_val {w : BitVec 32} (h : InTable w) : (row w).val = w.toNat :=
  Nat.mod_eq_of_lt h.toInt_eq.2

/-- Row numbers and words in range correspond: the word of `k` is `w` exactly when `k` is `w`'s row. -/
theorem InTable.ofNat_eq_iff {w : BitVec 32} (h : InTable w) (k : Fin 512) : BitVec.ofNat 32 k.val = w ↔ k = row w := by
  have hk := k.isLt
  rw [Fin.ext_iff, h.row_val, ← BitVec.toNat_inj, BitVec.toNat_ofNat, Nat.mod_eq_of_lt (by omega)]

/-- One entry of the one-hot column of a word: 1 at the word's row and 0 at every other. -/
theorem oneHot_entry {w : BitVec 32} (h : InTable w) (k : Fin 512) :
    FloatOps.sitofp (F := Ideal) .f32 (BitVec.setWidth 32 (IntOp.cmpi .eq (BitVec.ofNat 32 k.val) w))
      = if k = row w then (1 : EReal) else 0 := by
  by_cases hk : k = row w
  · rw [if_pos hk, IntOp.cmpi_eq.2 ((h.ofNat_eq_iff k).2 hk)]
    show (((BitVec.setWidth 32 1#1).toInt : ℝ) : EReal) = 1
    simp
  · have hz : IntOp.cmpi .eq (BitVec.ofNat 32 k.val) w = 0#1 := by
      rcases BitVec.eq_zero_or_eq_one (IntOp.cmpi .eq (BitVec.ofNat 32 k.val) w) with e | e
      · exact e
      · exact absurd ((h.ofNat_eq_iff k).1 (IntOp.cmpi_eq.1 e)) hk
    rw [if_neg hk, hz]
    show (((BitVec.setWidth 32 0#1).toInt : ℝ) : EReal) = 0
    simp

/-- THE ONE-HOT SUM PICKS A ROW: the other rows are multiplied by 0, which gives 0 even at an infinite entry. -/
theorem oneHot_sum {w : BitVec 32} (h : InTable w) (f : Fin 512 → EReal) :
    ∑ k : Fin 512, FloatOps.sitofp (F := Ideal) .f32 (BitVec.setWidth 32 (IntOp.cmpi .eq (BitVec.ofNat 32 k.val) w)) * f k
      = f (row w) := by
  have e : ∀ k : Fin 512,
      FloatOps.sitofp (F := Ideal) .f32 (BitVec.setWidth 32 (IntOp.cmpi .eq (BitVec.ofNat 32 k.val) w)) * f k
        = if k = row w then f k else 0 := fun k => by
    rw [oneHot_entry h k]
    by_cases hk : k = row w
    · rw [if_pos hk, if_pos hk]; exact one_mul _
    · rw [if_neg hk, if_neg hk]; exact zero_mul _
  rw [Finset.sum_congr rfl fun k _ => e k, Finset.sum_ite_eq' Finset.univ (row w) f, if_pos (Finset.mem_univ _)]

end Cert.Lookup

end
-- ==== Proof.KernelBlock.lean ====
/- What one grid point of the kernel computes. The first point looks the table rows up (a one-hot product, kept in the
   scratch for the later points); every point normalizes its block of 32 x 384 rows over the rows in the scratch. -/
module

public import proofs.«01_k».proof.Proof.Gen.KernelIdeal.Value
public import proofs.«01_k».proof.Proof.RowNorm
public import proofs.«01_k».proof.Proof.Lookup
public import Idealize.ShloMosaic.Lib.Pointwise
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe
open Cert.RowNorm Cert.Lookup

/-! ## The two stores' payloads, entry by entry -/

/-- The looked-up rows: entry `(p, l)` is entry `l` of the table row that index word `p` names. -/
theorem pay1_apply (idx : IVec S1x384 32) (emb : FVec Ideal S512x128 .f32) (p : Fin 384) (l : Fin 128)
    (h : InTable (idx (ix2 0 p))) :
    k0_pay1 (F := Ideal) idx emb (ix2 p l) = emb (ix2 (row (idx (ix2 0 p))) l) := by
  pointwise [k0_pay1]
  exact oneHot_sum h fun k => emb (ix2 k l)

/-- The normalized block: entry `(i, p, l)` is the entry's place in the normalization of row `(i, p)` of the block plus
    row `p` of the looked-up rows. -/
theorem pay2_apply (x : FVec Ideal S32x384x128 .f32) (r : FVec Ideal S384x128 .f32) (g b : FVec Ideal S1x128 .f32)
    (i : Fin 32) (p : Fin 384) (l : Fin 128) :
    k0_pay2 (F := Ideal) x r g b (ix3 i p l)
      = normR (fun k => x (ix3 i p k) + r (ix2 p k)) (g (ix2 0 l)) (b (ix2 0 l)) l := by
  pointwise [k0_pay2]
  rfl

/-! ## What the two cases leave, as these payloads -/

/-- The offsets of a whole access of a matrix are all 0. -/
theorem off2 : (![0, 0] : Fin 2 → Nat) = fun _ => 0 := funext fun a => by fin_cases a <;> rfl

/-- The offsets of a whole access of a rank-3 array are all 0. -/
theorem off3 : (![0, 0, 0] : Fin 3 → Nat) = fun _ => 0 := funext fun a => by fin_cases a <;> rfl

section Cases

variable (c : Dev nD) (i : grid0.Coords)
  (a1 : Memref sig .tc .vmem S1x384 .i32) (h1 : a1.IsWhole) (a2 : Memref sig .tc .vmem S512x128 .f32) (h2 : a2.IsWhole)
  (a3 : Memref sig .tc .vmem S32x384x128 .f32) (h3 : a3.IsWhole) (a4 : Memref sig .tc .vmem S1x128 .f32) (h4 : a4.IsWhole)
  (a5 : Memref sig .tc .vmem S1x128 .f32) (h5 : a5.IsWhole) (a6 : Memref sig .tc .vmem S32x384x128 .f32) (h6 : a6.IsWhole)
  (a7 : Memref sig .tc .vmem S384x128 .f32) (h7 : a7.IsWhole)
  (idx : Vec Ideal S1x384 .i32) (emb : Vec Ideal S512x128 .f32) (x : Vec Ideal S32x384x128 .f32)
  (g b : Vec Ideal S1x128 .f32) (r : Vec Ideal S384x128 .f32)

/-- A later point leaves its block normalized over the rows `r` it finds in the scratch. -/
theorem out_later (hc : ¬cond0_0 i) :
    out0_B_5 c i a1 h1 a2 h2 a3 h3 a4 h4 a5 h5 a6 h6 a7 h7 hc idx emb x g b r = k0_pay2 x r g b := by
  unfold out0_B_5
  rw [View.read_writes_eq_canon _ _ _ (cover0_B_5 c i a1 h1 a2 h2 a3 h3 a4 h4 a5 h5 a6 h6 a7 h7 hc idx emb x g b r)]
  unfold kernelRun0_B
  dsimp only
  rw [View.canon_unit_zero off3]
  simp only [View.readAt_eq_ld, h3.read_unread, h4.read_unread, h5.read_unread, h7.read_unread,
    View.ld_unit_zero (S := S32x384x128) off3, View.ld_unit_zero (S := S384x128) off2, View.ld_unit_zero (S := S1x128) off2]

/-- The first point leaves the looked-up rows in the scratch. -/
theorem scratch_first (hc : cond0_0 i) :
    sout0_A_0 c i a1 h1 a2 h2 a3 h3 a4 h4 a5 h5 a6 h6 a7 h7 hc idx emb x g b = k0_pay1 idx emb := by
  unfold sout0_A_0
  rw [View.read_writes_eq_canon _ _ _ (scover0_A_0 c i a1 h1 a2 h2 a3 h3 a4 h4 a5 h5 a6 h6 a7 h7 hc idx emb x g b)]
  unfold kernelRun0_A
  dsimp only
  sl_unfold_words
  rw [View.canon_unit_zero off2]
  simp only [View.readAt_eq_ld, h1.read_unread, h2.read_unread,
    View.ld_unit_zero (S := S1x384) off2, View.ld_unit_zero (S := S512x128) off2]

/-- The first point leaves its block normalized over the rows it has just looked up. -/
theorem out_first (hc : cond0_0 i) :
    out0_A_5 c i a1 h1 a2 h2 a3 h3 a4 h4 a5 h5 a6 h6 a7 h7 hc idx emb x g b = k0_pay2 x (k0_pay1 idx emb) g b := by
  unfold out0_A_5
  rw [View.read_writes_eq_canon _ _ _ (cover0_A_5 c i a1 h1 a2 h2 a3 h3 a4 h4 a5 h5 a6 h6 a7 h7 hc idx emb x g b)]
  unfold kernelRun0_A
  dsimp only
  sl_unfold_words
  rw [View.canon_unit_zero off3, View.readCov_unit_zero (S := S384x128) _ off2]
  simp only [View.readAt_eq_ld, h1.read_unread, h2.read_unread, h3.read_unread, h4.read_unread, h5.read_unread,
    View.ld_unit_zero (S := S32x384x128) off3, View.ld_unit_zero (S := S1x384) off2,
    View.ld_unit_zero (S := S512x128) off2, View.ld_unit_zero (S := S1x128) off2]

end Cases

end Cert.KernelIdeal.Block

end
-- ==== Proof.KernelArray.lean ====
/- What the kernel's result array holds after the run, entry by entry, as a function of the arguments: entry `(i, p, l)` is
   the normalization of row `(i, p)` of `x23` plus the table row that index word `p` names. -/
module

public import proofs.«01_k».proof.Proof.KernelBlock

@[expose] public section

set_option maxRecDepth 16384

noncomputable section

namespace Cert.KernelIdeal.Result

open Cert.KernelIdeal Cert.KernelIdeal.Gen Cert.KernelIdeal.Value Cert.KernelIdeal.Block
open Idealize.ShloMosaic Idealize.ShloMosaic.TcCoe
open Cert.RowNorm Cert.Lookup

variable (m : (ℓ : Loc nD τ sig) → Buf (Elt Ideal) ℓ) (c : Dev nD)

/-! ## The arguments -/

/-- The array the kernel normalizes. -/
abbrev x23 : FVec Ideal S256x384x128 .f32 := m ((c : Thread nD τ).loc main_arg0)

/-- The index words. -/
abbrev words : IVec S1x384 32 := m ((c : Thread nD τ).loc main_arg1)

/-- The table. -/
abbrev table : FVec Ideal S512x128 .f32 := m ((c : Thread nD τ).loc main_arg2)

/-- The scale. -/
abbrev scale : FVec Ideal S128 .f32 := m ((c : Thread nD τ).loc main_arg3)

/-- The shift. -/
abbrev shift : FVec Ideal S128 .f32 := m ((c : Thread nD τ).loc main_arg4)

/-! ## The points, one after another -/

/-- The rows the first point looks up. -/
def looked : FVec Ideal S384x128 .f32 := k0_pay1 (F := Ideal) (iblk m c 0 t0_0) (iblk m c 1 t0_0)

/-- After every point the scratch holds the rows the first point looked up, and the output block is the point's block
    normalized over them. -/
theorem after_point : ∀ (n : ℕ) (h : n < cfg0.N),
    outsAt0 m c n h
      = (k0_pay2 (F := Ideal) (iblk m c 2 ⟨n, h⟩) (looked m c) (iblk m c 3 ⟨n, h⟩) (iblk m c 4 ⟨n, h⟩), looked m c)
  | 0, h => by
    rw [outsAt0_A m c ⟨0, h⟩ (Nat.zero_mod _), out_first, scratch_first]
    rfl
  | n + 1, h => by
    have h8 : n + 1 < 8 := Nat.lt_of_lt_of_eq h N_0
    have e := outsAt0_B m c ⟨n + 1, h⟩ (by show ¬(n + 1) % 8 = 0; omega)
    rw [out_later] at e
    have prev := after_point n (Nat.lt_of_succ_lt h)
    refine e.trans ?_
    show (k0_pay2 (F := Ideal) _ (outsAt0 m c n _).2 _ _, (outsAt0 m c n _).2) = _
    rw [prev]

/-! ## The blocks, as the arguments -/

/-- Block `t` of `x23` starts at row `32 * t`. -/
theorem at2 : ∀ t : Fin grid0.N, win0_2.index t 0 = t.val ∧ win0_2.index t 1 = 0 ∧ win0_2.index t 2 = 0 := by decide +kernel

/-- The index window is the whole array. -/
theorem at0 : ∀ t : Fin grid0.N, win0_0.index t 0 = 0 ∧ win0_0.index t 1 = 0 := by decide +kernel

/-- The table window is the whole array. -/
theorem at1 : ∀ t : Fin grid0.N, win0_1.index t 0 = 0 ∧ win0_1.index t 1 = 0 := by decide +kernel

/-- The scale window is the whole array. -/
theorem at3 : ∀ t : Fin grid0.N, win0_3.index t 0 = 0 ∧ win0_3.index t 1 = 0 := by decide +kernel

/-- The shift window is the whole array. -/
theorem at4 : ∀ t : Fin grid0.N, win0_4.index t 0 = 0 ∧ win0_4.index t 1 = 0 := by decide +kernel

/-- Block `t` of `x23`, at an entry. -/
theorem block_x (t : Fin cfg0.N) (i : Fin 32) (p : Fin 384) (k : Fin 128) (j : Fin 256) (hj : j.val = t.val * 32 + i.val) :
    (iblk m c 2 t : FVec Ideal S32x384x128 .f32) (ix3 i p k) = x23 m c (ix3 j p k) := by
  have hi := at2 t
  unfold iblk
  rw [View.read_apply]
  show V m c main_arg0 _ = _
  rw [V_main_arg0]
  congr 1
  funext a
  apply Fin.ext
  match a with
  | ⟨0, _⟩ => show win0_2.index t 0 * 32 + 1 * i.val = j.val; rw [hi.1]; omega
  | ⟨1, _⟩ => show win0_2.index t 1 * 384 + 1 * p.val = p.val; rw [hi.2.1]; omega
  | ⟨2, _⟩ => show win0_2.index t 2 * 128 + 1 * k.val = k.val; rw [hi.2.2]; omega

/-- The index window holds the index array. -/
theorem block_idx (t : Fin cfg0.N) (p : Fin 384) :
    (iblk m c 0 t : IVec S1x384 32) (ix2 0 p) = words m c (ix2 0 p) := by
  have hi := at0 t
  unfold iblk
  rw [View.read_apply]
  show V m c main_arg1 _ = _
  rw [V_main_arg1]
  congr 1
  funext a
  apply Fin.ext
  match a with
  | ⟨0, _⟩ => show win0_0.index t 0 * 1 + 1 * 0 = 0; rw [hi.1]
  | ⟨1, _⟩ => show win0_0.index t 1 * 384 + 1 * p.val = p.val; rw [hi.2]; omega

/-- The table window holds the table. -/
theorem block_emb (t : Fin cfg0.N) (r : Fin 512) (k : Fin 128) :
    (iblk m c 1 t : FVec Ideal S512x128 .f32) (ix2 r k) = table m c (ix2 r k) := by
  have hi := at1 t
  unfold iblk
  rw [View.read_apply]
  show V m c main_arg2 _ = _
  rw [V_main_arg2]
  congr 1
  funext a
  apply Fin.ext
  match a with
  | ⟨0, _⟩ => show win0_1.index t 0 * 512 + 1 * r.val = r.val; rw [hi.1]; omega
  | ⟨1, _⟩ => show win0_1.index t 1 * 128 + 1 * k.val = k.val; rw [hi.2]; omega

/-- The scale as a row, reshaped from the argument. -/
theorem scale_row (l : Fin 128) :
    (V m c main_v0 : FVec Ideal S1x128 .f32) (ix2 0 l) = scale m c (ix1 l) := by
  have e : (V m c main_v0 : FVec Ideal S1x128 .f32)
      = shapeCast S1x128 (scale m c) shapeCasts_S128_S1x128 := by
    show StableHlo.after hostOps0 (fun b => m (c, b)) (Proc.devRef .tc main_v0) = _
    unfold hostOps0
    after_results
    rfl
  rw [e]
  pointwise []

/-- The shift as a row, reshaped from the argument. -/
theorem shift_row (l : Fin 128) :
    (V m c main_v1 : FVec Ideal S1x128 .f32) (ix2 0 l) = shift m c (ix1 l) := by
  have e : (V m c main_v1 : FVec Ideal S1x128 .f32)
      = shapeCast S1x128 (shift m c) shapeCasts_S128_S1x128 := by
    show StableHlo.after hostOps0 (fun b => m (c, b)) (Proc.devRef .tc main_v1) = _
    unfold hostOps0
    after_results
    rfl
  rw [e]
  pointwise []

/-- The scale window holds the scale. -/
theorem block_scale (t : Fin cfg0.N) (l : Fin 128) :
    (iblk m c 3 t : FVec Ideal S1x128 .f32) (ix2 0 l) = scale m c (ix1 l) := by
  have hi := at3 t
  rw [← scale_row m c l]
  unfold iblk
  rw [View.read_apply]
  show V m c main_v0 _ = _
  congr 1
  funext a
  apply Fin.ext
  match a with
  | ⟨0, _⟩ => show win0_3.index t 0 * 1 + 1 * 0 = 0; rw [hi.1]
  | ⟨1, _⟩ => show win0_3.index t 1 * 128 + 1 * l.val = l.val; rw [hi.2]; omega

/-- The shift window holds the shift. -/
theorem block_shift (t : Fin cfg0.N) (l : Fin 128) :
    (iblk m c 4 t : FVec Ideal S1x128 .f32) (ix2 0 l) = shift m c (ix1 l) := by
  have hi := at4 t
  rw [← shift_row m c l]
  unfold iblk
  rw [View.read_apply]
  show V m c main_v1 _ = _
  congr 1
  funext a
  apply Fin.ext
  match a with
  | ⟨0, _⟩ => show win0_4.index t 0 * 1 + 1 * 0 = 0; rw [hi.1]
  | ⟨1, _⟩ => show win0_4.index t 1 * 128 + 1 * l.val = l.val; rw [hi.2]; omega

/-- The rows looked up are the table rows that the index words name. -/
theorem looked_apply (h : ∀ p : Fin 384, InTable (words m c (ix2 0 p))) (p : Fin 384) (k : Fin 128) :
    looked m c (ix2 p k)
      = table m c (ix2 (row (words m c (ix2 0 p))) k) := by
  have e := block_idx m c t0_0 p
  unfold looked
  rw [pay1_apply (iblk m c 0 t0_0) (iblk m c 1 t0_0) p k (by rw [e]; exact h p), block_emb, e]

/-! ## The array -/

/-- Entry `(i, p, l)` of the kernel's result. -/
theorem array_apply (h : ∀ p : Fin 384, InTable (words m c (ix2 0 p)))
    (i : Fin 256) (p : Fin 384) (l : Fin 128) :
    (G5 m c : FVec Ideal S256x384x128 .f32) (ix3 i p l)
      = normR (fun k => x23 m c (ix3 i p k)
            + table m c (ix2 (row (words m c (ix2 0 p))) k))
          (scale m c (ix1 l)) (shift m c (ix1 l)) l := by
  have hi := i.isLt
  have hp := p.isLt
  have hl := l.isLt
  have hpt : pt5Of (ix3 i p l) = i.val / 32 := by
    show 1 * (i.val / 32 - 0) + 1 * (p.val / 384 - 0) + 1 * (l.val / 128 - 0) = i.val / 32
    omega
  have hlt : i.val / 32 < cfg0.N := Nat.lt_of_lt_of_eq (by omega) N_0.symm
  have hloc : loc5Of (ix3 i p l) = ix3 (⟨i.val % 32, by omega⟩ : Fin 32) p l := by
    funext a
    apply Fin.ext
    match a with
    | ⟨0, _⟩ => rfl
    | ⟨1, _⟩ => exact Nat.mod_eq_of_lt hp
    | ⟨2, _⟩ => exact Nat.mod_eq_of_lt hl
  unfold G5
  rw [dif_pos (by rw [hpt]; exact hlt), hloc, fold0_congr m c _ _ (i.val / 32) (by omega) hpt,
    ← outsAt0_sweep m c (i.val / 32) hlt, after_point]
  show k0_pay2 (F := Ideal) _ _ _ _ _ = _
  rw [pay2_apply, block_scale, block_shift]
  congr 1
  funext k
  rw [block_x m c _ _ p k i (by show i.val = i.val / 32 * 32 + i.val % 32; omega), looked_apply m c h]

end Cert.KernelIdeal.Result

end
-- ==== Proof.RefArray.lean ====
/- What the reference computes: entry `(i, p, l)` of its result is the layer normalization of row `(i, p)` of
   `x23 + table row`, where the table row is the one that index word `p` names. -/
module

public import proofs.«01_k».proof.Proof.Gen.ReferenceIdeal.Run
public import proofs.«01_k».proof.Proof.RowNorm
public import proofs.«01_k».proof.Proof.Lookup
public import Idealize.ShloMosaic.Lib.Pointwise
public import Idealize.ShloMosaic.Lib.ReduceAll

@[expose] public section

set_option maxRecDepth 16384

noncomputable section

namespace Cert.ReferenceIdeal.Result

open Cert.ReferenceIdeal Cert.ReferenceIdeal.Gen Idealize.ShloMosaic Idealize.ShloMosaic.TcCoe
open Cert.RowNorm Cert.Lookup

/-! ## The parts of the reference's term -/

/-- The start indices of the lookup: each index word, with 512 added where it is negative. -/
def start (idx : IVec S1x384 32) : IVec S1x384x1 32 :=
  broadcastInDim S1x384x1 ![0, 1] bcast_S1x384_S1x384x1_0_1
    (select (cmpi .slt idx (broadcastInDim S1x384 ![] bcast_S_S1x384 (constantI S_ 32 0#32)))
      (addi idx (broadcastInDim S1x384 ![] bcast_S_S1x384 (constantI S_ 32 512#32))) idx)

/-- The bit that says whether a start index lies in the table. -/
def inside (idx : IVec S1x384 32) : IVec S1x384 1 :=
  Host.reduce IntOp.andi
    (andi (cmpi .sge (start idx) (broadcastInDim S1x384x1 ![] bcast_S_S1x384x1 (constantI S_ 32 0#32)))
      (cmpi .sle (start idx)
        (broadcastInDim S1x384x1 ![0, 1, 2] bcast_S1x1x1_S1x384x1_0_1_2
          (broadcastInDim S1x1x1 ![2] bcast_S1_S1x1x1_2 (constantI S1 32 511#32)))))
    (constantI S_ 1 1#1) reducesTo_S1x384x1_S1x384_d2 h_S_

/-- The looked-up rows, with the fill value where the index lies outside the table. -/
def rows (idx : IVec S1x384 32) (emb : FVec Ideal S512x128 .f32) : FVec Ideal S1x384x128 .f32 :=
  select (broadcastInDim S1x384x128 ![0, 1] bcast_S1x384_S1x384x128_0_1 (inside idx))
    (Host.gather gather_S512x128_S1x384x1_S1x384x128_2_0_n_n_0_2_1128 emb (start idx))
    (broadcastInDim S1x384x128 ![] bcast_S_S1x384x128 (constant S_ .f32 0x7FC00000#32))

/-- The sum of the input and the looked-up rows, the same rows for every `i`. -/
def summed (x : FVec Ideal S256x384x128 .f32) (r : FVec Ideal S1x384x128 .f32) : FVec Ideal S256x384x128 .f32 :=
  addf x (broadcastInDim S256x384x128 ![0, 1, 2] bcast_S1x384x128_S256x384x128_0_1_2 r)

/-- The row means, one per `(i, p)`. -/
def means (y : FVec Ideal S256x384x128 .f32) : FVec Ideal S256x384x1 .f32 :=
  Host.divf
    (broadcastInDim S256x384x1 ![0, 1] bcast_S256x384_S256x384x1_0_1
      (Host.reduceAdd y (constant S_ .f32 0x00000000#32) reducesTo_S256x384x128_S256x384_d2 h_S_))
    (broadcastInDim S256x384x1 ![] bcast_S_S256x384x1 (constant S_ .f32 0x43000000#32))

/-- The entries less their row's mean. -/
def centred (y : FVec Ideal S256x384x128 .f32) : FVec Ideal S256x384x128 .f32 :=
  subf y (broadcastInDim S256x384x128 ![0, 1, 2] bcast_S256x384x1_S256x384x128_0_1_2 (means y))

/-- The layer normalization of every row of `y`. -/
def normed (y : FVec Ideal S256x384x128 .f32) (g b : FVec Ideal S128 .f32) : FVec Ideal S256x384x128 .f32 :=
  addf
    (mulf
      (Host.divf (centred y)
        (broadcastInDim S256x384x128 ![0, 1, 2] bcast_S256x384x1_S256x384x128_0_1_2
          (Host.sqrt
            (addf (means (mulf (centred y) (centred y)))
              (broadcastInDim S256x384x1 ![] bcast_S_S256x384x1 (constant S_ .f32 0x2B8CBCCC#32))))))
      (broadcastInDim S256x384x128 ![0, 1, 2] bcast_S1x1x128_S256x384x128_0_1_2
        (broadcastInDim S1x1x128 ![2] bcast_S128_S1x1x128_2 g)))
    (broadcastInDim S256x384x128 ![0, 1, 2] bcast_S1x1x128_S256x384x128_0_1_2
      (broadcastInDim S1x1x128 ![2] bcast_S128_S1x1x128_2 b))

/-- The reference's result, put together from these parts. -/
def result (x : FVec Ideal S256x384x128 .f32) (idx : IVec S1x384 32) (emb : FVec Ideal S512x128 .f32)
    (g b : FVec Ideal S128 .f32) : FVec Ideal S256x384x128 .f32 :=
  normed (summed x (rows idx emb)) g b

/-- What the run leaves in the result array is that function of the arguments. -/
theorem res_eq (m : (ℓ : Loc nD τ sig) → Buf (Elt Ideal) ℓ) (c : Dev nD) :
    Cert.ReferenceIdeal.Value.res_main_v26 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

/-! ## The lookup at an index -/

/-- The start index of an index word in range is the word itself. -/
theorem start_apply (idx : IVec S1x384 32) (p : Fin 384) (h : InTable (idx (ix2 0 p))) :
    start idx (ix3 0 p 0) = idx (ix2 0 p) := by
  have hz : IntOp.cmpi .slt (idx (ix2 0 p)) 0#32 = 0#1 := by
    rcases BitVec.eq_zero_or_eq_one (IntOp.cmpi .slt (idx (ix2 0 p)) 0#32) with e | e
    · exact e
    · have := IntOp.cmpi_slt.1 e
      exact absurd h.1 (not_le.2 this)
  pointwise [start]
  rw [hz]
  rfl

/-- An index word in range is found inside the table. -/
theorem inside_apply (idx : IVec S1x384 32) (h : ∀ p, InTable (idx (ix2 0 p))) (p : Fin 384) :
    inside idx (ix2 0 p) = 1#1 := by
  refine Host.reduce_andi_one _ _ _ _ _ rfl fun q => ?_
  idx_vars q
  obtain rfl : q0 = 0 := Subsingleton.elim _ _
  obtain rfl : q2 = 0 := Subsingleton.elim _ _
  pointwise
  rw [start_apply idx q1 (h q1), IntOp.cmpi_sge.2 (show (0#32 : BitVec 32).toInt ≤ (idx (ix2 0 q1)).toInt from (h q1).1),
    IntOp.cmpi_sle.2 (show (idx (ix2 0 q1)).toInt ≤ (511#32 : BitVec 32).toInt from Int.lt_add_one_iff.1 (h q1).2)]
  rfl

/-- The dimension numbers of the reference's gather: whole rows of 128 entries, one start index per row. -/
abbrev takeDims : GatherDims S512x128 S1x384x1 S1x384x128 := gather_S512x128_S1x384x1_S1x384x128_2_0_n_n_0_2_1128

/-- The gather at an index whose start index is in range: the entry of the table in the row that the start index names.
    On the row axis the start index is what counts (its clamping into the table changes nothing), on the other axis the
    place in the row. -/
theorem gather_apply (emb : FVec Ideal S512x128 .f32) (st : IVec S1x384x1 32) (p : Fin 384) (l : Fin 128)
    (h : InTable (st (ix3 0 p 0))) :
    Host.gather takeDims emb st (ix3 0 p l)
      = emb (ix2 (row (st (ix3 0 p 0))) l) := by
  unfold Host.gather
  refine congrArg emb (funext fun a => Fin.ext ?_)
  match a with
  | ⟨0, _⟩ =>
    have hst : takeDims.start (ix3 0 p l) st (0 : Fin 2)
        = min (st (ix3 0 p 0)).toInt.toNat 511 := by
      unfold GatherDims.start
      rw [dif_pos (show (0 : Fin 2) ∈ takeDims.startIndexMap from List.mem_singleton.2 rfl)]
      refine congrArg (fun z => min (st z).toInt.toNat 511) (funext fun b => Fin.ext ?_)
      match b with
      | ⟨0, _⟩ => rfl
      | ⟨1, _⟩ => rfl
      | ⟨2, _⟩ => rfl
    show takeDims.start (ix3 0 p l) st (0 : Fin 2) + takeDims.batchCoord (ix3 0 p l) (0 : Fin 2)
      + takeDims.offCoord (ix3 0 p l) (0 : Fin 2) = (row (st (ix3 0 p 0))).val
    obtain ⟨e, hlt⟩ := h.toInt_eq
    rw [hst, h.row_val, e, GatherDims.batchCoord_eq_zero _ _ _ List.not_mem_nil,
      GatherDims.offCoord_eq_zero _ _ _ (fun hk => ((GatherDims.mem_sKept _ _).1 hk).1 (List.mem_singleton.2 rfl))]
    omega
  | ⟨1, _⟩ =>
    have hcol : (1 : Fin 2) ∉ ([0] : List (Fin 2)) := by decide
    show takeDims.start (ix3 0 p l) st (1 : Fin 2) + takeDims.batchCoord (ix3 0 p l) (1 : Fin 2)
      + takeDims.offCoord (ix3 0 p l) (1 : Fin 2) = l.val
    have hst : takeDims.start (ix3 0 p l) st (1 : Fin 2) = 0 := by
      unfold GatherDims.start
      exact dif_neg hcol
    have hoff : takeDims.offCoord (ix3 0 p l) (1 : Fin 2) = l.val := by
      unfold GatherDims.offCoord
      rw [dif_pos ((GatherDims.mem_sKept _ _).2 ⟨hcol, List.not_mem_nil⟩)]
      rfl
    rw [hst, hoff, GatherDims.batchCoord_eq_zero _ _ _ List.not_mem_nil]
    omega

/-- The looked-up row of an index word in range is the table's row of that number. -/
theorem rows_apply (idx : IVec S1x384 32) (emb : FVec Ideal S512x128 .f32) (h : ∀ p, InTable (idx (ix2 0 p)))
    (p : Fin 384) (l : Fin 128) : rows idx emb (ix3 0 p l) = emb (ix2 (row (idx (ix2 0 p))) l) := by
  have hs := start_apply idx p (h p)
  pointwise [rows]
  rw [inside_apply idx h p, gather_apply emb (start idx) p l (by rw [hs]; exact h p), hs]
  rfl

/-! ## The normalization at an index -/

/-- The mean at `(i, p)` is the mean of row `(i, p)`. -/
theorem means_apply (y : FVec Ideal S256x384x128 .f32) (i : Fin 256) (p : Fin 384) :
    means y (ix3 i p 0) = mean fun k => y (ix3 i p k) := by
  pointwise [means]
  rfl

/-- A centred entry is the entry less the mean of its row. -/
theorem centred_apply (y : FVec Ideal S256x384x128 .f32) (i : Fin 256) (p : Fin 384) (l : Fin 128) :
    centred y (ix3 i p l) = y (ix3 i p l) - mean fun k => y (ix3 i p k) := by
  pointwise [centred]
  rw [means_apply]

/-- A normalized entry is the entry's place in the normalization of its row. -/
theorem normed_apply (y : FVec Ideal S256x384x128 .f32) (g b : FVec Ideal S128 .f32) (i : Fin 256) (p : Fin 384)
    (l : Fin 128) : normed y g b (ix3 i p l) = norm (fun k => y (ix3 i p k)) (g (ix1 l)) (b (ix1 l)) l := by
  pointwise [normed]
  rw [means_apply, centred_apply]
  pointwise
  simp only [centred_apply]
  rfl

/-- THE REFERENCE AT AN INDEX, the index words in range. -/
theorem result_apply (x : FVec Ideal S256x384x128 .f32) (idx : IVec S1x384 32) (emb : FVec Ideal S512x128 .f32)
    (g b : FVec Ideal S128 .f32) (h : ∀ p, InTable (idx (ix2 0 p))) (i : Fin 256) (p : Fin 384) (l : Fin 128) :
    result x idx emb g b (ix3 i p l)
      = norm (fun k => x (ix3 i p k) + emb (ix2 (row (idx (ix2 0 p))) k)) (g (ix1 l)) (b (ix1 l)) l := by
  have e : ∀ k, summed x (rows idx emb) (ix3 i p k) = x (ix3 i p k) + emb (ix2 (row (idx (ix2 0 p))) k) := fun k => by
    pointwise [summed]
    rw [rows_apply idx emb h p k]
  unfold result
  rw [normed_apply]
  simp only [e]

end Cert.ReferenceIdeal.Result

end
-- ==== Proof.Equation.lean ====
/- The equation: on arguments whose index words lie in the table, the kernel's result array is the reference's. -/
module

public import proofs.«01_k».proof.Defs
public import proofs.«01_k».proof.Proof.Gen.Pre_in_table
public import proofs.«01_k».proof.Proof.KernelArray
public import proofs.«01_k».proof.Proof.RefArray
public import Idealize.ShloMosaic.Lib.Affine

@[expose] public section

set_option maxRecDepth 16384

noncomputable section

namespace Cert.Equation

open Idealize.ShloMosaic Idealize.ShloMosaic.TcCoe
open Cert.KernelIdeal (nD τ sig)
open Cert.KernelIdeal.Result (x23 words table scale shift)
open Cert.RowNorm Cert.Lookup

/-- The precondition puts every index word into the table. -/
theorem in_table (m : (ℓ : Loc nD τ sig) → Buf (Elt Ideal) ℓ) (hpre : Pre_KernelIdeal_in_table m) (c : Dev nD) (p : Fin 384) :
    InTable (words m c (ix2 0 p)) := by
  have h := congrFun (hpre c) (ix2 0 p)
  pointwise [Cert.Pre_in_table.fn] at h
  obtain ⟨hge, hlt⟩ := IntOp.andi_eq_one.mp h
  exact ⟨IntOp.cmpi_sge.mp hge, IntOp.cmpi_slt.mp hlt⟩

/-- The kernel's array is the reference's function of the kernel's arguments. -/
theorem kernel_eq (m : (ℓ : Loc nD τ sig) → Buf (Elt Ideal) ℓ) (hpre : Pre_KernelIdeal_in_table m) (c : Dev nD) :
    Cert.KernelIdeal.Value.G5 m c
      = Cert.ReferenceIdeal.Result.result (x23 m c)
          (words m c) (table m c)
          (scale m c) (shift m c) := by
  funext q
  idx_vars q
  have h := in_table m hpre c
  rw [Cert.ReferenceIdeal.Result.result_apply _ _ _ _ _ h, ← normR_eq_norm]
  exact Cert.KernelIdeal.Result.array_apply m c h q0 q1 q2

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_in_table
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- A program without semaphores ends with every one at zero: the reference's run, read as its frame. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame holds without the precondition, so it holds with it. -/
theorem frame_reference_in_table : quiescent_ReferenceIdeal_pre_in_table := fun m ρ _ => frame_reference m ρ trivial

/-- The kernel and the reference leave the same result array. -/
theorem same_result : algebraic_KernelIdeal_ReferenceIdeal_pre_in_table := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨e0, e1, e2, e3, e4⟩ := hagree c
  rw [(h c).1, Cert.ReferenceIdeal.Result.res_eq, e0, e1, e2, e3, e4]
  exact (Cert.Equation.kernel_eq m hpre c).symm

/-- Everything claimed. -/
theorem claim : Cert.Claim :=
  ⟨Cert.Kernel.Gen.facts, Cert.KernelIdeal.Gen.facts, Cert.ReferenceIdeal.Gen.facts, Cert.Pre_in_table.Gen.facts,
    fun m ρ _ => Cert.Kernel.Gen.frame m ρ, fun m ρ _ => Cert.KernelIdeal.Gen.frame m ρ,
    fun m ρ _ => Cert.KernelIdeal.Gen.frame m ρ, frame_reference, frame_reference_in_table,
    (trivial : preserves_Kernel_KernelIdeal), same_result⟩

end Cert.Proof

end
